-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x64 : Shape := ⟨3, ![16, 64, 64]⟩
abbrev S4x4096x16x64 : Shape := ⟨4, ![4, 4096, 16, 64]⟩
abbrev S4x4096 : Shape := ⟨2, ![4, 4096]⟩
abbrev S4x16x64x4096 : Shape := ⟨4, ![4, 16, 64, 4096]⟩
abbrev S1x16384 : Shape := ⟨2, ![1, 16384]⟩
abbrev S1x4096 : Shape := ⟨2, ![1, 4096]⟩
abbrev S1x1x64x4096 : Shape := ⟨4, ![1, 1, 64, 4096]⟩
abbrev S1x64x64 : Shape := ⟨3, ![1, 64, 64]⟩
abbrev S64x4096 : Shape := ⟨2, ![64, 4096]⟩
abbrev S64x64 : Shape := ⟨2, ![64, 64]⟩

abbrev nBuf : Space → Nat
  | .hbm => 8
  | .vmem => 10
  | .smem => 0
  | _ => 0

abbrev bufTy : (tb : Table) → Fin (tcTables nBuf tb) → BufTy
  | .hbm, ⟨0, _⟩ => ⟨S16x64x64, .f32⟩
  | .hbm, ⟨1, _⟩ => ⟨S4x4096x16x64, .f32⟩
  | .hbm, ⟨2, _⟩ => ⟨S4x4096x16x64, .f32⟩
  | .hbm, ⟨3, _⟩ => ⟨S4x4096, .f32⟩
  | .hbm, ⟨4, _⟩ => ⟨S4x16x64x4096, .f32⟩
  | .hbm, ⟨5, _⟩ => ⟨S4x16x64x4096, .f32⟩
  | .hbm, ⟨6, _⟩ => ⟨S1x16384, .f32⟩
  | .hbm, ⟨7, _⟩ => ⟨S16x64x64, .f32⟩
  | .local _ .vmem, ⟨0, _⟩ => ⟨S1x4096, .f32⟩
  | .local _ .vmem, ⟨1, _⟩ => ⟨S1x4096, .f32⟩
  | .local _ .vmem, ⟨2, _⟩ => ⟨S1x1x64x4096, .f32⟩
  | .local _ .vmem, ⟨3, _⟩ => ⟨S1x1x64x4096, .f32⟩
  | .local _ .vmem, ⟨4, _⟩ => ⟨S1x1x64x4096, .f32⟩
  | .local _ .vmem, ⟨5, _⟩ => ⟨S1x1x64x4096, .f32⟩
  | .local _ .vmem, ⟨6, _⟩ => ⟨S1x64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16x64x64 : Shape := ⟨3, ![16, 64, 64]⟩
abbrev S4x4096x16x64 : Shape := ⟨4, ![4, 4096, 16, 64]⟩
abbrev S4x4096 : Shape := ⟨2, ![4, 4096]⟩
abbrev S4x4096x1x1 : Shape := ⟨4, ![4, 4096, 1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S4x4096x16x64, .f32⟩
  | .hbm, ⟨2, _⟩ => ⟨S4x4096x16x64, .f32⟩
  | .hbm, ⟨3, _⟩ => ⟨S4x4096, .f32⟩
  | .hbm, ⟨4, _⟩ => ⟨S4x4096x1x1, .f32⟩
  | .hbm, ⟨5, _⟩ => ⟨S4x4096x16x64, .f32⟩
  | .hbm, ⟨6, _⟩ => ⟨S4x4096x16x64, .f32⟩
  | .hbm, ⟨7, _⟩ => ⟨S16x64x64, .f32⟩
  | .hbm, ⟨8, _⟩ => ⟨S_, .f32⟩
  | .hbm, ⟨9, _⟩ => ⟨S16x64x64, .f32⟩
  | .hbm, ⟨10, _⟩ => ⟨S16x64x64, .f32⟩
  | .hbm, ⟨11, _⟩ => ⟨S16x64x64, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Block.lean ====
/-
  WHAT ONE GRID POINT COMPUTES: at point 4·h + b the kernel adds batch `b`'s part of head `h`'s sum to the output block,
  which the head's first point (b = 0) sets to 0.95 times the head's old memory beforehand. Each block is read here as
  entries of the program's arguments.
-/
module

public import proofs.«01_k».proof.Proof.Gen.KernelIdeal.Value
public import Idealize.ShloMosaic.Lib.StableHlo.Run
public import Idealize.ShloMosaic.Lib.Pointwise

@[expose] public section

noncomputable section

namespace Cert.KernelIdeal.Value

open Cert.KernelIdeal Cert.KernelIdeal.Gen Idealize.ShloMosaic Idealize.ShloMosaic.TcCoe Idealize.ShloMosaic.StableHlo Idealize.SL.Sem

/-- The block that the head's first point sets: 0.95 times the old memory. -/
theorem decayed_apply (x : FVec Ideal S1x64x64 .f32) (k v : Fin 64) :
    k0_pay1 x (ix3 0 k v) = Ideal.ofBits .f32 0x3F733333#32 * x (ix3 0 k v) := by
  pointwise [k0_pay1]

/-- The block that a point leaves: what it found, plus keys times (values × strengths) summed over the positions. -/
theorem added_apply (K V : FVec Ideal S1x1x64x4096 .f32) (w : FVec Ideal S1x4096 .f32) (acc : FVec Ideal S1x64x64 .f32)
    (k v : Fin 64) :
    k0_pay2 K V w acc (ix3 0 k v)
      = acc (ix3 0 k v) + ∑ s : Fin 4096, K (ix4 0 0 k s) * (V (ix4 0 0 v s) * w (ix2 0 s)) := by
  pointwise [k0_pay2]

variable (m : (ℓ : Loc nD τ sig) → Buf (Elt Ideal) ℓ)

/-- The host's transposed keys, [batch, head, row, position], as the region finds them. -/
theorem keysT_apply (c : Dev nD) (b : Fin 4) (h : Fin 16) (k : Fin 64) (s : Fin 4096) :
    V m c main_v0 (ix4 b h k s) = m ((c : Thread nD τ).loc main_arg1) (ix4 b s h k) := by
  have e : V m c main_v0 = transpose S4x16x64x4096 [0, 2, 3, 1] (m ((c : Thread nD τ).loc main_arg1))
      transposes_S4x4096x16x64_S4x16x64x4096_0_2_3_1 := by
    dsimp only [V, hostOps0]
    after_results
  rw [e]
  pointwise

/-- The host's transposed values, [batch, head, column, position], as the region finds them. -/
theorem valuesT_apply (c : Dev nD) (b : Fin 4) (h : Fin 16) (v : Fin 64) (s : Fin 4096) :
    V m c main_v1 (ix4 b h v s) = m ((c : Thread nD τ).loc main_arg2) (ix4 b s h v) := by
  have e : V m c main_v1 = transpose S4x16x64x4096 [0, 2, 3, 1] (m ((c : Thread nD τ).loc main_arg2))
      transposes_S4x4096x16x64_S4x16x64x4096_0_2_3_1 := by
    dsimp only [V, hostOps0]
    after_results
  rw [e]
  pointwise

/-- The host's flattened strengths: position `s` of batch `b` lies at 4096·b + s. -/
theorem strengthsRow_apply (c : Dev nD) (b : Fin 4) (s : Fin 4096) (q : Fin 16384) (hq : q.val = 4096 * b.val + s.val) :
    V m c main_v2 (ix2 0 q) = m ((c : Thread nD τ).loc main_arg3) (ix2 b s) := by
  have e : V m c main_v2 = shapeCast S1x16384 (m ((c : Thread nD τ).loc main_arg3)) shapeCasts_S4x4096_S1x16384 := by
    dsimp only [V, hostOps0]
    after_results
    rfl
  rw [e]
  refine shapeCast_apply _ _ _ (ix2 b s) ?_
  rw [Shape.rowMajor_val_two, Shape.rowMajor_val_two]
  show b.val * 4096 + s.val = 0 * 16384 + q.val
  omega

/-! ## The input blocks at grid point 4·h + b -/

/-- The block indices of the four input windows at point `t`: head `t / 4`, batch `t % 4`. -/
theorem index_facts : ∀ t : Fin cfg0.N, win0_0.index t = ![0, t.val % 4] ∧ win0_1.index t = ![t.val % 4, t.val / 4, 0, 0]
    ∧ win0_2.index t = ![t.val % 4, t.val / 4, 0, 0] ∧ win0_3.index t = ![t.val / 4, 0, 0] :=
  (by decide +kernel : ∀ t : Fin grid0.N, _)

/-- The batch of grid point `n`. -/
abbrev batchOf (n : ℕ) : Fin 4 := ⟨n % 4, Nat.mod_lt _ (by decide)⟩
/-- The head of grid point `n` (below 64). -/
abbrev headOf (n : ℕ) : Fin 16 := ⟨n / 4 % 16, Nat.mod_lt _ (by decide)⟩

/-- The strengths' block at a point: its batch's row. -/
theorem strengths_block (c : Dev nD) (t : Fin cfg0.N) (s : Fin 4096) :
    iblk m c 0 t (ix2 0 s) = m ((c : Thread nD τ).loc main_arg3) (ix2 (batchOf t.val) s) := by
  obtain ⟨h0, -, -, -⟩ := index_facts t
  have hq : t.val % 4 * 4096 + s.val < 16384 := by omega
  rw [← strengthsRow_apply m c (batchOf t.val) s ⟨_, hq⟩ (by show _ = 4096 * (t.val % 4) + s.val; dsimp only; omega)]
  show V m c main_v2 (((cfg0.win 0).blk t).view.emb (ix2 0 s)) = _
  congr 1
  funext a
  apply Fin.ext
  match a with
  | ⟨0, _⟩ => show win0_0.index t (0 : Fin 2) * 1 + 1 * 0 = 0; rw [h0]; rfl
  | ⟨1, _⟩ => show win0_0.index t (1 : Fin 2) * 4096 + 1 * s.val = t.val % 4 * 4096 + s.val; rw [h0, one_mul]; rfl

/-- The keys' block at a point: its batch and head, the rows first. -/
theorem keys_block (c : Dev nD) (t : Fin cfg0.N) (k : Fin 64) (s : Fin 4096) :
    iblk m c 1 t (ix4 0 0 k s) = m ((c : Thread nD τ).loc main_arg1) (ix4 (batchOf t.val) s (headOf t.val) k) := by
  obtain ⟨-, h1, -, -⟩ := index_facts t
  have ht : t.val < 64 := lt_of_lt_of_eq t.isLt N_0
  rw [← keysT_apply m c]
  show V m c main_v0 (((cfg0.win 1).blk t).view.emb (ix4 0 0 k s)) = _
  congr 1
  funext a
  apply Fin.ext
  match a with
  | ⟨0, _⟩ => show win0_1.index t (0 : Fin 4) * 1 + 1 * 0 = t.val % 4; rw [h1]; show t.val % 4 * 1 + 1 * 0 = _; omega
  | ⟨1, _⟩ => show win0_1.index t (1 : Fin 4) * 1 + 1 * 0 = t.val / 4 % 16; rw [h1]; show t.val / 4 * 1 + 1 * 0 = _; omega
  | ⟨2, _⟩ => show win0_1.index t (2 : Fin 4) * 64 + 1 * k.val = k.val; rw [h1]; show 0 * 64 + 1 * k.val = _; omega
  | ⟨3, _⟩ => show win0_1.index t (3 : Fin 4) * 4096 + 1 * s.val = s.val; rw [h1]; show 0 * 4096 + 1 * s.val = _; omega

/-- The values' block at a point: its batch and head, the columns first. -/
theorem values_block (c : Dev nD) (t : Fin cfg0.N) (v : Fin 64) (s : Fin 4096) :
    iblk m c 2 t (ix4 0 0 v s) = m ((c : Thread nD τ).loc main_arg2) (ix4 (batchOf t.val) s (headOf t.val) v) := by
  obtain ⟨-, -, h2, -⟩ := index_facts t
  have ht : t.val < 64 := lt_of_lt_of_eq t.isLt N_0
  rw [← valuesT_apply m c]
  show V m c main_v1 (((cfg0.win 2).blk t).view.emb (ix4 0 0 v s)) = _
  congr 1
  funext a
  apply Fin.ext
  match a with
  | ⟨0, _⟩ => show win0_2.index t (0 : Fin 4) * 1 + 1 * 0 = t.val % 4; rw [h2]; show t.val % 4 * 1 + 1 * 0 = _; omega
  | ⟨1, _⟩ => show win0_2.index t (1 : Fin 4) * 1 + 1 * 0 = t.val / 4 % 16; rw [h2]; show t.val / 4 * 1 + 1 * 0 = _; omega
  | ⟨2, _⟩ => show win0_2.index t (2 : Fin 4) * 64 + 1 * v.val = v.val; rw [h2]; show 0 * 64 + 1 * v.val = _; omega
  | ⟨3, _⟩ => show win0_2.index t (3 : Fin 4) * 4096 + 1 * s.val = s.val; rw [h2]; show 0 * 4096 + 1 * s.val = _; omega

/-- The old memory's block at a point: its head's matrix. -/
theorem memory_block (c : Dev nD) (t : Fin cfg0.N) (k v : Fin 64) :
    iblk m c 3 t (ix3 0 k v) = m ((c : Thread nD τ).loc main_arg0) (ix3 (headOf t.val) k v) := by
  obtain ⟨-, -, -, h3⟩ := index_facts t
  have ht : t.val < 64 := lt_of_lt_of_eq t.isLt N_0
  rw [← V_main_arg0 m c]
  show V m c main_arg0 (((cfg0.win 3).blk t).view.emb (ix3 0 k v)) = _
  congr 1
  funext a
  apply Fin.ext
  match a with
  | ⟨0, _⟩ => show win0_3.index t (0 : Fin 3) * 1 + 1 * 0 = t.val / 4 % 16; rw [h3]; show t.val / 4 * 1 + 1 * 0 = _; omega
  | ⟨1, _⟩ => show win0_3.index t (1 : Fin 3) * 64 + 1 * k.val = k.val; rw [h3]; show 0 * 64 + 1 * k.val = _; omega
  | ⟨2, _⟩ => show win0_3.index t (2 : Fin 3) * 64 + 1 * v.val = v.val; rw [h3]; show 0 * 64 + 1 * v.val = _; omega

end Cert.KernelIdeal.Value

end
-- ==== Proof.Ref.lean ====
/-
  WHAT THE REFERENCE COMPUTES, element by element over the extended reals: 0.95 times the old memory, plus the sum over
  the batch and the position of (strength × key) × value.
-/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen Idealize.ShloMosaic Idealize.ShloMosaic.TcCoe

/-- The reference's term for the written memory, of the old memory `M`, the keys `K`, the values `V` and the write
    strengths `w`. -/
abbrev written (M : FVec Ideal S16x64x64 .f32) (K V : FVec Ideal S4x4096x16x64 .f32) (w : FVec Ideal S4x4096 .f32) :
    FVec Ideal S16x64x64 .f32 :=
  addf (mulf (broadcastInDim S16x64x64 ![] bcast_S_S16x64x64 (constant S_ .f32 0x3F733333#32)) M)
    (Host.dotGeneral dot_S4x4096x16x64_S4x4096x16x64_S16x64x64_01_01_3_3_2_2 none
      (mulf (broadcastInDim S4x4096x16x64 ![0, 1, 2, 3] bcast_S4x4096x1x1_S4x4096x16x64_0_1_2_3
        (broadcastInDim S4x4096x1x1 ![0, 1] bcast_S4x4096_S4x4096x1x1_0_1 w)) K) V)

/-- The written memory at head `h`, key row `k` and value column `v`. -/
theorem written_apply (M : FVec Ideal S16x64x64 .f32) (K V : FVec Ideal S4x4096x16x64 .f32) (w : FVec Ideal S4x4096 .f32)
    (h : Fin 16) (k v : Fin 64) :
    written M K V w (ix3 h k v)
      = Ideal.ofBits .f32 0x3F733333#32 * M (ix3 h k v)
          + ∑ b : Fin 4, ∑ s : Fin 4096, w (ix2 b s) * K (ix4 b s h k) * V (ix4 b s h v) := by
  pointwise [written]

end Cert.ReferenceIdeal.Value

end
-- ==== Proof.Sum.lean ====
/-
  WHAT THE ARRAY HOLDS: a head's four points add up its four batches, so its block of the result ends at 0.95 times the
  old memory plus the sum over batches and positions; and the equation with the reference's term.
-/
module

public import proofs.«01_k».proof.Proof.Block
public import proofs.«01_k».proof.Proof.Ref

@[expose] public section

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The old memory as launched, [head, row, column]. -/
abbrev oldMemory (c : Dev nD) : FVec Ideal S16x64x64 .f32 := m ((c : Thread nD τ).loc main_arg0)
/-- The keys, [batch, position, head, row]. -/
abbrev theKeys (c : Dev nD) : FVec Ideal S4x4096x16x64 .f32 := m ((c : Thread nD τ).loc main_arg1)
/-- The values, [batch, position, head, column]. -/
abbrev theValues (c : Dev nD) : FVec Ideal S4x4096x16x64 .f32 := m ((c : Thread nD τ).loc main_arg2)
/-- The write strengths, [batch, position]. -/
abbrev strengths (c : Dev nD) : FVec Ideal S4x4096 .f32 := m ((c : Thread nD τ).loc main_arg3)

/-- What grid point `n` adds at a block's entry: key times (value × strength), summed over the positions of the point's
    batch and head. -/
def part (c : Dev nD) (n : ℕ) (j : S1x64x64.Idx) : Ideal .f32 :=
  ∑ s : Fin 4096, theKeys m c (ix4 (batchOf n) s (headOf n) (j 1))
    * (theValues m c (ix4 (batchOf n) s (headOf n) (j 2))
      * strengths m c (ix2 (batchOf n) s))

/-- What the first point of head `n / 4` starts from at a block's entry. -/
def start (c : Dev nD) (n : ℕ) (j : S1x64x64.Idx) : Ideal .f32 :=
  Ideal.ofBits .f32 0x3F733333#32 * oldMemory m c (ix3 (headOf n) (j 1) (j 2))

/-- A point after the head's first adds its part. -/
theorem step4_apply (c : Dev nD) (n : ℕ) (h : n < cfg0.N) (acc : Vec Ideal S1x64x64 .f32) (j : S1x64x64.Idx) :
    step4 m c n h acc j = acc j + part m c n j := by
  obtain ⟨u, k, v, rfl⟩ : ∃ (u : Fin 1) (k v : Fin 64), j = ix3 u k v := ⟨j 0, j 1, j 2, eq_ix3 j⟩
  obtain rfl : u = 0 := Subsingleton.elim _ _
  refine (added_apply _ _ _ acc k v).trans (congrArg _ (Finset.sum_congr rfl fun s _ => ?_))
  rw [keys_block, values_block, strengths_block]
  rfl

/-- The head's first point starts from the decayed memory and adds its part. -/
theorem reset4_apply (c : Dev nD) (n : ℕ) (h : n < cfg0.N) (j : S1x64x64.Idx) :
    reset4 m c n h j = start m c n j + part m c n j := by
  refine (step4_apply m c n h _ j).trans (congrArg (· + part m c n j) ?_)
  obtain ⟨u, k, v, rfl⟩ : ∃ (u : Fin 1) (k v : Fin 64), j = ix3 u k v := ⟨j 0, j 1, j 2, eq_ix3 j⟩
  obtain rfl : u = 0 := Subsingleton.elim _ _
  rw [decayed_apply, memory_block]
  rfl

/-- The result array at head `h`, row `k`, column `v`: the decayed memory plus the sum over batches and positions. -/
theorem G4_apply (c : Dev nD) (h : Fin 16) (k v : Fin 64) :
    G4 m c (ix3 h k v)
      = Ideal.ofBits .f32 0x3F733333#32 * oldMemory m c (ix3 h k v)
        + ∑ b : Fin 4, ∑ s : Fin 4096, theKeys m c (ix4 b s h k)
            * (theValues m c (ix4 b s h v) * strengths m c (ix2 b s)) := by
  have hrun : run4Of (ix3 h k v) = h.val := by
    show 1 * (h.val / 1 - 0) + 1 * (k.val / 64 - 0) + 1 * (v.val / 64 - 0) = h.val
    omega
  have hN : 4 * run4Of (ix3 h k v) + 3 < cfg0.N := by
    rw [hrun, show cfg0.N = 64 from N_0]; omega
  have hloc : loc4Of (ix3 h k v) = ix3 0 k v := by
    funext a
    apply Fin.ext
    match a with
    | ⟨0, _⟩ => exact Nat.mod_one _
    | ⟨1, _⟩ => exact Nat.mod_eq_of_lt k.isLt
    | ⟨2, _⟩ => exact Nat.mod_eq_of_lt v.isLt
  have hhead : ∀ b : ℕ, b < 4 → headOf (4 * h.val + b) = h := fun b hb =>
    Fin.ext (by show (4 * h.val + b) / 4 % 16 = h.val; omega)
  have hbatch : ∀ b : Fin 4, batchOf (4 * h.val + b.val) = b := fun b =>
    Fin.ext (by show (4 * h.val + b.val) % 4 = b.val; omega)
  unfold G4
  rw [dif_pos hN, hloc]
  refine (Pipeline.accAt_add_apply (reset4 m c) (step4 m c) (start m c (4 * run4Of (ix3 h k v))) (part m c)
    (4 * run4Of (ix3 h k v)) 3 (fun hb j => reset4_apply m c _ hb j) (fun n hn acc j _ _ => step4_apply m c n hn acc j)
    3 le_rfl hN (ix3 0 k v)).trans ?_
  rw [hrun, ← Fin.sum_univ_eq_sum_range (fun s => part m c (4 * h.val + s) (ix3 0 k v))]
  unfold start part
  rw [show headOf (4 * h.val) = h from hhead 0 (by decide)]
  refine congrArg _ (Finset.sum_congr rfl fun b _ => ?_)
  rw [hhead b.val b.isLt, hbatch b]
  rfl

/-- THE EQUATION: the kernel's result array is the reference's term of the same arguments. Products of extended reals
    commute and associate, so the strength may scale the value or the key. -/
theorem G4_eq_written (c : Dev nD) :
    G4 m c = Cert.ReferenceIdeal.Value.written (oldMemory m c) (theKeys m c) (theValues m c) (strengths m c) := by
  funext i
  obtain ⟨h, k, v, rfl⟩ : ∃ (h : Fin 16) (k v : Fin 64), i = ix3 h k v := ⟨i 0, i 1, i 2, eq_ix3 i⟩
  refine (G4_apply m c h k v).trans (Eq.trans ?_ (Cert.ReferenceIdeal.Value.written_apply _ _ _ _ h k v).symm)
  refine congrArg _ (Finset.sum_congr rfl fun b _ => Finset.sum_congr rfl fun s _ => ?_)
  rw [mul_comm (theValues m c _) _, ← mul_assoc, mul_comm (theKeys m c _) _]

end Cert.KernelIdeal.Value

end
-- ==== Proof.lean ====
/-
  THE CERTIFICATE of the decayed associative-memory write: each program's frame, the ideal program's ledger (no rewrite),
  and the equation of kernel and reference over the extended reals (`Proof/Sum.lean`, `G4_eq_written`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Sum
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its arguments unchanged, and declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, kernel and reference end with the same result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2.1, (hagree c).2.2.2]
  exact (Cert.KernelIdeal.Value.G4_eq_written m c).symm

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  (trivial : preserves_Kernel_KernelIdeal), algebraic_KernelIdeal_ReferenceIdeal⟩

end Cert.Proof

end
